-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_router [hPre_finite_router : Cert.Pre_finite_router.Facts] (m : (ℓ : Loc Cert.KernelIdeal.nD Cert.KernelIdeal.τ Cert.KernelIdeal.sig) → Buf (Elt Ideal) ℓ) : Prop :=
  ∀ c : Dev Cert.KernelIdeal.nD,
    (Cert.Pre_finite_router.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_router [hPre_finite_router : Cert.Pre_finite_router.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_router.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_router [hKernelIdeal : Cert.KernelIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_router m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_router [hReferenceIdeal : Cert.ReferenceIdeal.Facts] [hPre_finite_router : Cert.Pre_finite_router.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_router m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_router [hKernelIdeal : Cert.KernelIdeal.Facts] [hReferenceIdeal : Cert.ReferenceIdeal.Facts] [hPre_finite_router : Cert.Pre_finite_router.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_router m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_router : Cert.Pre_finite_router.Facts),
    quiescent_Kernel (hKernel := hKernel)
    ∧ quiescent_KernelIdeal (hKernelIdeal := hKernelIdeal)
    ∧ quiescent_KernelIdeal_pre_finite_router (hKernelIdeal := hKernelIdeal) (hPre_finite_router := hPre_finite_router)
    ∧ quiescent_ReferenceIdeal (hReferenceIdeal := hReferenceIdeal)
    ∧ quiescent_ReferenceIdeal_pre_finite_router (hReferenceIdeal := hReferenceIdeal) (hPre_finite_router := hPre_finite_router)
    ∧ preserves_Kernel_KernelIdeal
    ∧ algebraic_KernelIdeal_ReferenceIdeal_pre_finite_router (hKernelIdeal := hKernelIdeal) (hReferenceIdeal := hReferenceIdeal) (hPre_finite_router := hPre_finite_router)
-- ==== Pre_finite_router.lean ====
abbrev S1x2048x768 : Shape := ⟨3, ![1, 2048, 768]⟩
abbrev S8x2048x768 : Shape := ⟨3, ![8, 2048, 768]⟩
abbrev S8x768x1024 : Shape := ⟨3, ![8, 768, 1024]⟩
abbrev S8x768 : Shape := ⟨2, ![8, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_

variable [Facts]

def fn {F : FTy → Type} [FloatOps F] (main_arg0 : FVec F S1x2048x768 .f32) (main_arg1 : FVec F S8x2048x768 .f32) (main_arg2 : FVec F S8x768x1024 .f32) (main_arg3 : FVec F S8x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S8x768 .f32 := Host.absf main_arg3
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  main_v8
-- ==== Kernel.lean ====
abbrev S1x2048x768 : Shape := ⟨3, ![1, 2048, 768]⟩
abbrev S8x2048x768 : Shape := ⟨3, ![8, 2048, 768]⟩
abbrev S8x768x1024 : Shape := ⟨3, ![8, 768, 1024]⟩
abbrev S8x768 : Shape := ⟨2, ![8, 768]⟩
abbrev S2048x768 : Shape := ⟨2, ![2048, 768]⟩
abbrev S256x768 : Shape := ⟨2, ![256, 768]⟩
abbrev S256x8 : Shape := ⟨2, ![256, 8]⟩
abbrev S256 : Shape := ⟨1, ![256]⟩
abbrev S256x1 : Shape := ⟨2, ![256, 1]⟩
abbrev S256x2048 : Shape := ⟨2, ![256, 2048]⟩
abbrev S256x1024 : Shape := ⟨2, ![256, 1024]⟩
abbrev S1x768x1024 : Shape := ⟨3, ![1, 768, 1024]⟩
abbrev S768x1024 : Shape := ⟨2, ![768, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x2048x768, .f32⟩
  | .hbm, ⟨1, _⟩ => ⟨S8x2048x768, .f32⟩
  | .hbm, ⟨2, _⟩ => ⟨S8x768x1024, .f32⟩
  | .hbm, ⟨3, _⟩ => ⟨S8x768, .f32⟩
  | .hbm, ⟨4, _⟩ => ⟨S2048x768, .f32⟩
  | .hbm, ⟨5, _⟩ => ⟨S8x2048x768, .bf16⟩
  | .hbm, ⟨6, _⟩ => ⟨S8x768x1024, .bf16⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S8x768, .f32⟩
  | .local _ .vmem, ⟨3, _⟩ => ⟨S8x2048x768, .bf16⟩
  | .local _ .vmem, ⟨4, _⟩ => ⟨S8x768x1024, .bf16⟩
  | .local _ .vmem, ⟨5, _⟩ => ⟨S256x768, .f32⟩
  | .local _ .vmem, ⟨6, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x2048x768 : Shape := ⟨3, ![1, 2048, 768]⟩
abbrev S8x2048x768 : Shape := ⟨3, ![8, 2048, 768]⟩
abbrev S8x768x1024 : Shape := ⟨3, ![8, 768, 1024]⟩
abbrev S8x768 : Shape := ⟨2, ![8, 768]⟩
abbrev S2048x768 : Shape := ⟨2, ![2048, 768]⟩
abbrev S768x8 : Shape := ⟨2, ![768, 8]⟩
abbrev S2048x8 : Shape := ⟨2, ![2048, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S4096 : Shape := ⟨1, ![4096]⟩
abbrev S2048x8x2048 : Shape := ⟨3, ![2048, 8, 2048]⟩
abbrev S4096x1 : Shape := ⟨2, ![4096, 1]⟩
abbrev S4096x2 : Shape := ⟨2, ![4096, 2]⟩
abbrev S4096x2048 : Shape := ⟨2, ![4096, 2048]⟩
abbrev S4096x1024 : Shape := ⟨2, ![4096, 1024]⟩
abbrev S4096x8x768 : Shape := ⟨3, ![4096, 8, 768]⟩
abbrev S4096x768 : Shape := ⟨2, ![4096, 768]⟩

abbrev nBuf : Space → Nat
  | .hbm => 93
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S8x2048x768, .f32⟩
  | .hbm, ⟨2, _⟩ => ⟨S8x768x1024, .f32⟩
  | .hbm, ⟨3, _⟩ => ⟨S8x768, .f32⟩
  | .hbm, ⟨4, _⟩ => ⟨S2048x768, .f32⟩
  | .hbm, ⟨5, _⟩ => ⟨S768x8, .f32⟩
  | .hbm, ⟨6, _⟩ => ⟨S2048x8, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048x1, .f32⟩
  | .hbm, ⟨13, _⟩ => ⟨S2048x8, .f32⟩
  | .hbm, ⟨14, _⟩ => ⟨S2048x8, .f32⟩
  | .hbm, ⟨15, _⟩ => ⟨S2048x8, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x8, .f32⟩
  | .hbm, ⟨20, _⟩ => ⟨S2048x8, .f32⟩
  | .hbm, ⟨21, _⟩ => ⟨S2048x2, .f32⟩
  | .hbm, ⟨22, _⟩ => ⟨S2048x2, .i32⟩
  | .hbm, ⟨23, _⟩ => ⟨S2048, .i32⟩
  | .hbm, ⟨24, _⟩ => ⟨S2048x2, .i32⟩
  | .hbm, ⟨25, _⟩ => ⟨S4096, .i32⟩
  | .hbm, ⟨26, _⟩ => ⟨S4096, .i32⟩
  | .hbm, ⟨27, _⟩ => ⟨S4096, .f32⟩
  | .hbm, ⟨28, _⟩ => ⟨S2048x8x2048, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096x2048, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x8x768, .f32⟩
  | .hbm, ⟨60, _⟩ => ⟨S4096, .i32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S4096x1, .i32⟩
  | .hbm, ⟨77, _⟩ => ⟨S4096x2, .i32⟩
  | .hbm, ⟨78, _⟩ => ⟨S4096x768, .f32⟩
  | .hbm, ⟨79, _⟩ => ⟨S_, .f32⟩
  | .hbm, ⟨80, _⟩ => ⟨S2048x768, .f32⟩
  | .hbm, ⟨81, _⟩ => ⟨S4096x1, .f32⟩
  | .hbm, ⟨82, _⟩ => ⟨S4096x768, .f32⟩
  | .hbm, ⟨83, _⟩ => ⟨S4096x768, .f32⟩
  | .hbm, ⟨84, _⟩ => ⟨S_, .i32⟩
  | .hbm, ⟨85, _⟩ => ⟨S4096, .i32⟩
  | .hbm, ⟨86, _⟩ => ⟨S4096, .i1⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S4096, .i32⟩
  | .hbm, ⟨91, _⟩ => ⟨S4096x1, .i32⟩
  | .hbm, ⟨92, _⟩ => ⟨S2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_values : Ref sig .tc := ⟨.hbm, 21, rfl⟩
abbrev main_indices : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_5 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_10 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩

abbrev nD : Nat := 1
abbrev τ : Topo := Topo.v7x

variable {F : FTy → Type} [FloatOps F]
-- ==== Proof.Ranking.lean ====
/-
  The two greatest of eight numbers, ties to the lower position: the order a stable sort by "greater first" puts
  the positions in, and what its first two places are.
-/
module

public import Idealize.ShloMosaic.Lib.SortFacts
public import Idealize.ShloMosaic.PureOps.Ideal

@[expose] public section

noncomputable section

namespace Cert.Experts

open Idealize.ShloMosaic

/-- Position `a` ranks ahead of position `b`: its number is greater, or the numbers tie and `a` is the lower position. -/
def Ahead {n : Nat} (p : Fin n → EReal) (a b : Fin n) : Prop := p b < p a ∨ (p a = p b ∧ a < b)

/-- Ranking ahead is transitive. -/
theorem Ahead.trans {n : Nat} {p : Fin n → EReal} {a b c : Fin n} (h : Ahead p a b) (k : Ahead p b c) : Ahead p a c := by
  rcases h with h | ⟨h, h'⟩ <;> rcases k with k | ⟨k, k'⟩
  · exact .inl (k.trans h)
  · exact .inl (k ▸ h)
  · exact .inl (h.symm ▸ k)
  · exact .inr ⟨h.trans k, h'.trans k'⟩

/-- What ranks ahead is at least as great. -/
theorem Ahead.le {n : Nat} {p : Fin n → EReal} {a b : Fin n} (h : Ahead p a b) : p b ≤ p a :=
  h.elim le_of_lt fun h => h.1.ge

/-- "Greater first", the relation the stable sort is given. -/
def greater {n : Nat} (p : Fin n → EReal) (a b : Fin n) : Bool := decide (p b < p a)

/-- Inserting a position that lies below every listed one keeps a ranked list ranked. -/
theorem ranked_insert {n : Nat} (p : Fin n → EReal) (a : Fin n) (l : List (Fin n)) (hl : l.Pairwise (Ahead p))
    (ha : ∀ b ∈ l, a < b) : (insertBefore (greater p) a l).Pairwise (Ahead p) := by
  induction l with
  | nil => exact List.pairwise_singleton _ _
  | cons b l ih =>
    obtain ⟨hb, hl'⟩ := List.pairwise_cons.1 hl
    unfold insertBefore
    split
    · next hba =>
      refine List.pairwise_cons.2 ⟨fun c hc => ?_, ih hl' fun c hc => ha c (List.mem_cons_of_mem _ hc)⟩
      rcases List.mem_cons.1 ((perm_insertBefore _ a l).mem_iff.1 hc) with rfl | hc
      · exact .inl (of_decide_eq_true hba)
      · exact hb c hc
    · next hba =>
      have hle : p b ≤ p a := not_lt.1 fun h => hba (decide_eq_true h)
      have hab : Ahead p a b := hle.lt_or_eq.elim .inl fun e => .inr ⟨e.symm, ha b List.mem_cons_self⟩
      refine List.pairwise_cons.2 ⟨fun c hc => ?_, hl⟩
      rcases List.mem_cons.1 hc with rfl | hc
      · exact hab
      · exact hab.trans (hb c hc)

/-- The stable sort of a list of rising positions is ranked. -/
theorem ranked_sort {n : Nat} (p : Fin n → EReal) (l : List (Fin n)) (hl : l.Pairwise (· < ·)) :
    (stableSort (greater p) l).Pairwise (Ahead p) := by
  induction l with
  | nil => exact List.Pairwise.nil
  | cons a l ih =>
    obtain ⟨ha, hl'⟩ := List.pairwise_cons.1 hl
    exact ranked_insert p a _ (ih hl') fun b hb => ha b ((perm_stableSort _ l).mem_iff.1 hb)

/-- An earlier place of the sort holds a position that ranks ahead of every later place's. -/
theorem sorted_ahead {n : Nat} (p : Fin n → EReal) (i j : Fin n) (hij : i < j) :
    Ahead p (sortedFrom (greater p) i) (sortedFrom (greater p) j) :=
  List.pairwise_iff_get.1 (ranked_sort p _ (List.pairwise_lt_finRange n)) _ _ (Fin.lt_def.2 hij)

/-- `i` ranks ahead of every other position and `j` ahead of all but `i`. -/
structure TopTwo (p : Fin 8 → EReal) (i j : Fin 8) : Prop where
  first : ∀ k, k ≠ i → Ahead p i k
  second : ∀ k, k ≠ i → k ≠ j → Ahead p j k
  ne : i ≠ j

/-- The greatest position: the sort's first place. -/
def best (p : Fin 8 → EReal) : Fin 8 := sortedFrom (greater p) 0

/-- The greatest of the other positions: the sort's second place. -/
def runnerUp (p : Fin 8 → EReal) : Fin 8 := sortedFrom (greater p) 1

/-- The sort's first two places are the two greatest. -/
theorem topTwo_sorted (p : Fin 8 → EReal) : TopTwo p (best p) (runnerUp p) where
  first k hk := by
    obtain ⟨s, rfl⟩ := sortedFrom_surjective (greater p) k
    exact sorted_ahead p 0 s (Fin.pos_of_ne_zero fun e => hk (e ▸ rfl))
  second k hk hk' := by
    obtain ⟨s, rfl⟩ := sortedFrom_surjective (greater p) k
    have h0 : s ≠ 0 := fun e => hk (e ▸ rfl)
    have h1 : s ≠ 1 := fun e => hk' (e ▸ rfl)
    exact sorted_ahead p 1 s (by omega)
  ne h := absurd (sortedFrom_injective (greater p) h) (by decide)

end Cert.Experts
-- ==== Proof.Mixture.lean ====
/-
  The mathematics of the expert layer, over the extended reals: a token's scores, their softmax, one expert's gated
  network, and the token's result — the two best experts' outputs, each times its softmax weight.
-/
module

public import proofs.«01_k».proof.Proof.Ranking
public import Idealize.ShloMosaic.PureOps.Reduce
public import Idealize.ShloMosaic.Lib.Affine

@[expose] public section

noncomputable section

namespace Cert.Experts

open Idealize.ShloMosaic

/-- The score the router gives expert `e`: the token times that expert's row. -/
def score (x : Fin 768 → EReal) (router : Fin 8 → Fin 768 → EReal) (e : Fin 8) : EReal := ∑ d, x d * router e d

/-- The greatest of eight numbers, by a fold of `max` from the bottom. -/
def peak (s : Fin 8 → EReal) : EReal := Finset.univ.fold max ⊥ s

/-- The softmax of eight numbers, each shifted by the greatest first. -/
def softmax (s : Fin 8 → EReal) (e : Fin 8) : EReal :=
  Ideal.div (Ideal.exp (s e - peak s)) (∑ k, Ideal.exp (s k - peak s))

/-- Row `n` of an expert's first layer applied to the token. -/
def proj (x : Fin 768 → EReal) (w1 : Fin 2048 → Fin 768 → EReal) (n : Fin 2048) : EReal := ∑ d, x d * w1 n d

/-- Gate row `k` of the first layer. -/
def gateRow (k : Fin 1024) : Fin 2048 := ⟨k.val, by omega⟩

/-- Up row `k` of the first layer: the second half. -/
def upRow (k : Fin 1024) : Fin 2048 := ⟨1024 + k.val, by omega⟩

/-- Hidden unit `k`: the up row times the gate row's silu. -/
def hiddenUnit (x : Fin 768 → EReal) (w1 : Fin 2048 → Fin 768 → EReal) (k : Fin 1024) : EReal :=
  proj x w1 (upRow k) * Ideal.div (proj x w1 (gateRow k)) (1 + Ideal.exp (0 - proj x w1 (gateRow k)))

/-- Output channel `o` of one expert. -/
def expert (x : Fin 768 → EReal) (w1 : Fin 2048 → Fin 768 → EReal) (w2 : Fin 768 → Fin 1024 → EReal) (o : Fin 768) :
    EReal := ∑ k, hiddenUnit x w1 k * w2 o k

/-- Output channel `o` of the layer at one token: the two best experts' outputs weighted by the softmax. -/
def layer (x : Fin 768 → EReal) (router : Fin 8 → Fin 768 → EReal) (w1 : Fin 8 → Fin 2048 → Fin 768 → EReal)
    (w2 : Fin 8 → Fin 768 → Fin 1024 → EReal) (o : Fin 768) : EReal :=
  let p := softmax (score x router)
  expert x (w1 (best p)) (w2 (best p)) o * p (best p) + expert x (w1 (runnerUp p)) (w2 (runnerUp p)) o * p (runnerUp p)

/-! ## The silu, written with a quotient or with a reciprocal -/

/-- Nothing exponentiates to a negative number. -/
theorem exp_nonneg (x : EReal) : 0 ≤ Ideal.exp x := by
  unfold Ideal.exp
  split
  all_goals first | exact le_rfl | exact le_top | exact EReal.coe_nonneg.2 (Real.exp_pos _).le

/-- `g · (1 / (1 + exp (−g)))` is `g / (1 + exp (0 − g))`: the divisor is never zero. -/
theorem mul_sigmoid (g : EReal) : g * Ideal.div 1 (1 + Ideal.exp (-g)) = Ideal.div g (1 + Ideal.exp (0 - g)) := by
  have h : (1 : EReal) + Ideal.exp (-g) ≠ 0 := by
    have : (1 : EReal) ≤ 1 + Ideal.exp (-g) := le_add_of_nonneg_right (exp_nonneg _)
    exact ne_of_gt (lt_of_lt_of_le zero_lt_one this)
  rw [zero_sub]
  unfold Ideal.div
  rw [if_neg h, if_neg h, one_mul]

/-! ## Finite scores have a softmax of positive numbers -/

/-- A real sum, read as an extended number, is the sum of its terms so read. -/
theorem coe_total {n : Nat} (f : Fin n → ℝ) : ((∑ k, f k : ℝ) : EReal) = ∑ k, (f k : EReal) := by
  have h : ∀ t : Finset (Fin n), ((∑ k ∈ t, f k : ℝ) : EReal) = ∑ k ∈ t, (f k : EReal) := fun t => by
    induction t using Finset.induction_on with
    | empty => rfl
    | insert a t ha ih => rw [Finset.sum_insert ha, Finset.sum_insert ha, EReal.coe_add, ih]
  exact h _

/-- A finite sum of products of finite numbers is finite. -/
theorem score_finite (x : Fin 768 → EReal) (router : Fin 8 → Fin 768 → EReal) (hx : ∀ d, ∃ a : ℝ, x d = a)
    (hr : ∀ e d, ∃ a : ℝ, router e d = a) (e : Fin 8) : ∃ a : ℝ, score x router e = a := by
  choose a ha using hx
  choose b hb using hr
  refine ⟨∑ d, a d * b e d, ?_⟩
  unfold score
  rw [coe_total]
  exact Finset.sum_congr rfl fun d _ => by rw [ha, hb, EReal.coe_mul]

/-- Nothing exceeds the greatest. -/
theorem le_peak (s : Fin 8 → EReal) (e : Fin 8) : s e ≤ peak s :=
  ((Finset.fold_max_le (peak s)).1 le_rfl).2 e (Finset.mem_univ e)

/-- The greatest is attained where a number is above all others. -/
theorem peak_eq (s : Fin 8 → EReal) (e : Fin 8) (h : ∀ k, s k ≤ s e) : peak s = s e :=
  le_antisymm ((Finset.fold_max_le _).2 ⟨bot_le, fun k _ => h k⟩) (le_peak s e)

/-- Finite scores: the greatest is finite. -/
theorem peak_finite (s : Fin 8 → EReal) (hs : ∀ e, ∃ a : ℝ, s e = a) : ∃ a : ℝ, peak s = a := by
  obtain ⟨e, -, he⟩ := Finset.exists_max_image Finset.univ s ⟨0, Finset.mem_univ _⟩
  rw [peak_eq s e fun k => he k (Finset.mem_univ k)]
  exact hs e

/-- Finite scores: every softmax weight is above the bottom. -/
theorem softmax_gt (s : Fin 8 → EReal) (hs : ∀ e, ∃ a : ℝ, s e = a) (e : Fin 8) : ⊥ < softmax s e := by
  obtain ⟨m, hm⟩ := peak_finite s hs
  choose a ha using hs
  have hexp : ∀ k, Ideal.exp (s k - peak s) = ((Real.exp (a k - m) : ℝ) : EReal) := fun k => by
    rw [ha, hm, ← EReal.coe_sub]; rfl
  unfold softmax
  have hsum : (∑ k, Ideal.exp (s k - peak s)) = ((∑ k, Real.exp (a k - m) : ℝ) : EReal) := by
    rw [coe_total]; exact Finset.sum_congr rfl fun k _ => hexp k
  have hpos : 0 < ∑ k, Real.exp (a k - m) := Finset.sum_pos (fun k _ => Real.exp_pos _) ⟨0, Finset.mem_univ _⟩
  rw [hsum, hexp]
  unfold Ideal.div
  rw [if_neg (by exact_mod_cast hpos.ne'), ← EReal.coe_inv, ← EReal.coe_mul]
  exact EReal.bot_lt_coe _

/-! ## The kernel's way of choosing: two rounds of "the greatest, the first that attains it" -/

/-- The position word of the first number that attains the greatest: the least over all positions of the position
    where it is attained and of eight elsewhere. -/
def firstWord (q : Fin 8 → EReal) : BitVec 32 :=
  Finset.univ.fold IntOp.minsi 2147483647#32 fun k => if q k = peak q then BitVec.ofNat 32 k.val else 8#32

/-- The numbers with the one at a position word put to the bottom. -/
def struck (p : Fin 8 → EReal) (w : BitVec 32) (k : Fin 8) : EReal :=
  Scalar.select (IntOp.cmpi .eq (BitVec.ofNat 32 k.val) w) ⊥ (p k)

/-- The weight each expert gets: its own where it is the first round's or the second round's choice, zero elsewhere. -/
def chosen (p : Fin 8 → EReal) (e : Fin 8) : EReal :=
  Scalar.select (IntOp.ori (IntOp.cmpi .eq (BitVec.ofNat 32 e.val) (firstWord p))
    (IntOp.cmpi .eq (BitVec.ofNat 32 e.val) (firstWord (struck p (firstWord p))))) (p e) 0

/-- A fold of the signed minimum is the entry that is least. -/
theorem fold_minsi (f : Fin 8 → BitVec 32) (i : Fin 8) (h : ∀ k, (f i).toInt ≤ (f k).toInt) :
    Finset.univ.fold IntOp.minsi 2147483647#32 f = f i := by
  have key : ∀ x y z : BitVec 32, x.toInt ≤ (IntOp.minsi y z).toInt ↔ x.toInt ≤ y.toInt ∧ x.toInt ≤ z.toInt := by
    intro x y z
    unfold IntOp.minsi
    simp only [BitVec.sle, decide_eq_true_eq, BitVec.slt]
    split <;> omega
  have fold_iff : ∀ x : BitVec 32, x.toInt ≤ (Finset.univ.fold IntOp.minsi 2147483647#32 f).toInt
      ↔ x.toInt ≤ (2147483647#32).toInt ∧ ∀ k ∈ Finset.univ, x.toInt ≤ (f k).toInt := fun x =>
    Finset.fold_op_rel_iff_and (r := fun x y : BitVec 32 => x.toInt ≤ y.toInt) (key _ _ _)
  have top : ∀ x : BitVec 32, x.toInt ≤ (2147483647#32).toInt := fun x => by
    have := x.toInt_lt
    have e : (2147483647#32).toInt = 2147483647 := by decide
    omega
  exact BitVec.toInt_inj.1 (le_antisymm (((fold_iff _).1 le_rfl).2 i (Finset.mem_univ i))
    ((fold_iff _).2 ⟨top _, fun k _ => h k⟩))

/-- A position read as a signed word is itself. -/
theorem toInt_position (k : Nat) (hk : k ≤ 8) : (BitVec.ofNat 32 k).toInt = k := by
  rw [BitVec.toInt_eq_toNat_of_lt (by rw [BitVec.toNat_ofNat]; omega), BitVec.toNat_ofNat]
  omega

/-- Two positions have the same word only if they are the same. -/
theorem position_inj (a b : Fin 8) : BitVec.ofNat 32 a.val = BitVec.ofNat 32 b.val ↔ a = b := by
  refine ⟨fun h => Fin.ext ?_, fun h => h ▸ rfl⟩
  have := congrArg BitVec.toNat h
  simp only [BitVec.toNat_ofNat] at this
  omega

/-- Comparing two positions' words tests whether they are the same. -/
theorem word_eq (a b : Fin 8) : IntOp.cmpi .eq (BitVec.ofNat 32 a.val) (BitVec.ofNat 32 b.val) = 1 ↔ a = b := by
  rw [← position_inj]
  exact IntOp.cmpi_eq

/-- A disjunction of one-bit words is set when one of them is. -/
theorem ori_eq_one (a b : BitVec 1) : IntOp.ori a b = 1 ↔ a = 1 ∨ b = 1 := by
  revert a b; decide

/-- One round finds the position that ranks ahead of all others. -/
theorem firstWord_eq (q : Fin 8 → EReal) (i : Fin 8) (h : ∀ k, k ≠ i → Ahead q i k) :
    firstWord q = BitVec.ofNat 32 i.val := by
  have hle : ∀ k, q k ≤ q i := fun k => (eq_or_ne k i).elim (fun e => e ▸ le_rfl) fun e => (h k e).le
  unfold firstWord
  rw [peak_eq q i hle]
  refine (fold_minsi _ i fun k => ?_).trans (if_pos rfl)
  rw [if_pos rfl, toInt_position _ (by omega)]
  split
  · next hk =>
    rw [toInt_position _ (by omega)]
    rcases eq_or_ne k i with rfl | e
    · exact le_rfl
    · rcases h k e with h | ⟨-, h⟩
      · exact absurd hk h.ne
      · exact_mod_cast h.le
  · have : (8#32).toInt = 8 := by decide
    rw [this]; omega

/-- Striking position `i` puts its number, and no other, to the bottom. -/
theorem struck_eq (p : Fin 8 → EReal) (i k : Fin 8) :
    struck p (BitVec.ofNat 32 i.val) k = if k = i then ⊥ else p k := by
  unfold struck Scalar.select
  exact if_congr (word_eq k i) rfl rfl

/-- THE KERNEL'S TWO ROUNDS CHOOSE THE TWO BEST, when every number is above the bottom. -/
theorem chosen_eq (p : Fin 8 → EReal) (hp : ∀ k, ⊥ < p k) (i j : Fin 8) (h : TopTwo p i j) (e : Fin 8) :
    chosen p e = if e = i ∨ e = j then p e else 0 := by
  have hi : firstWord p = BitVec.ofNat 32 i.val := firstWord_eq p i h.first
  have hj : firstWord (struck p (firstWord p)) = BitVec.ofNat 32 j.val := by
    rw [hi]
    refine firstWord_eq _ j fun k hk => ?_
    unfold Ahead
    rw [struck_eq, struck_eq, if_neg h.ne.symm]
    split
    · exact .inl (hp j)
    · next hki => exact h.second k hki hk
  unfold chosen Scalar.select
  rw [hj, hi]
  exact if_congr ((ori_eq_one _ _).trans (or_congr (word_eq e i) (word_eq e j))) rfl rfl

/-- Eight outputs under weights that vanish but at two positions sum to those two terms. -/
theorem sum_two (y p : Fin 8 → EReal) (i j : Fin 8) (hij : i ≠ j) :
    (∑ e, y e * if e = i ∨ e = j then p e else 0) = y i * p i + y j * p j := by
  have off : ∀ e ∈ Finset.univ, e ∉ ({i, j} : Finset (Fin 8)) → (y e * if e = i ∨ e = j then p e else 0) = 0 :=
    fun e _ he => by
      rw [if_neg fun h => he (by rw [Finset.mem_insert, Finset.mem_singleton]; exact h), mul_zero]
  rw [← Finset.sum_subset (Finset.subset_univ {i, j}) off, Finset.sum_pair hij, if_pos (.inl rfl), if_pos (.inr rfl)]

end Cert.Experts
-- ==== Proof.KernelBlock.lean ====
/-
  One grid point of the kernel: the block it stores, read at a row and a channel, is the sum over the eight experts of
  the expert's output at that row times the row's weight for the expert.
-/
module

public import proofs.«01_k».proof.Proof.Mixture
public import proofs.«01_k».proof.Proof.Gen.KernelIdeal.Value
public import Idealize.ShloMosaic.Lib.Pointwise

@[expose] public section

set_option maxRecDepth 16384

noncomputable section

namespace Cert.KernelIdeal.Block

open Cert.KernelIdeal Cert.KernelIdeal.Gen Cert.Experts Idealize.ShloMosaic Idealize.ShloMosaic.TcCoe
open Idealize.ShloMosaic.Pointwise

/-! ## The words the body names, read as numbers -/

/-- The word the maxima start from is the bottom. -/
theorem floor_word : (FloatOps.ofBits (F := Ideal) FTy.f32 4286578688#32 : Ideal .f32) = ⊥ := by
  show Ideal.ofBits FTy.f32 4286578688#32 = ⊥
  simp [Ideal.ofBits, Ideal.ieee]

/-! ## The body's values, element by element -/

/-- Row `r` of the token block against the router: the weight of expert `e`. -/
theorem weight_apply (x : Vec Ideal S256x768 .f32) (w : Vec Ideal S8x768 .f32) (r : Fin 256) (e : Fin 8) :
    k0_pay2 (F := Ideal) x w (ix2 r e) = chosen (softmax (score (fun d => x (ix2 r d)) fun e d => w (ix2 e d))) e := by
  pointwise [k0_pay2, k0_pay1]
  have hf : Ideal.ofBits FTy.f32 4286578688#32 = ⊥ := floor_word
  rw [hf]
  rfl

/-- Output channel `c` at row `r` of one expert's two weight blocks. -/
def unit (x : FVec Ideal S256x768 .bf16) (w1 : Vec Ideal S1x2048x768 .bf16) (w2 : Vec Ideal S1x768x1024 .bf16)
    (r : Fin 256) (c : Fin 768) : EReal :=
  expert (fun d => x (ix2 r d)) (fun n d => w1 (ix3 0 n d)) (fun o k => w2 (ix3 0 o k)) c

/-- The first pair of experts adds its two weighted outputs. -/
theorem pair0_apply (p : FVec Ideal S256x8 .f32) (x : FVec Ideal S256x768 .bf16) (acc : FVec Ideal S256x768 .f32)
    (u : Vec Ideal S1x2048x768 .bf16) (v : Vec Ideal S1x768x1024 .bf16) (u' : Vec Ideal S1x2048x768 .bf16)
    (v' : Vec Ideal S1x768x1024 .bf16) (r : Fin 256) (c : Fin 768) :
    k0_pay5 p x acc u v u' v' (ix2 r c)
      = acc (ix2 r c) + unit x u v r c * p (ix2 r 0) + unit x u' v' r c * p (ix2 r 1) := by
  pointwise [k0_pay5]
  rfl

/-- The second pair. -/
theorem pair1_apply (p : FVec Ideal S256x8 .f32) (x : FVec Ideal S256x768 .bf16) (acc : FVec Ideal S256x768 .f32)
    (u : Vec Ideal S1x2048x768 .bf16) (v : Vec Ideal S1x768x1024 .bf16) (u' : Vec Ideal S1x2048x768 .bf16)
    (v' : Vec Ideal S1x768x1024 .bf16) (r : Fin 256) (c : Fin 768) :
    k0_pay6 p x acc u v u' v' (ix2 r c)
      = acc (ix2 r c) + unit x u v r c * p (ix2 r 2) + unit x u' v' r c * p (ix2 r 3) := by
  pointwise [k0_pay6]
  rfl

/-- The third pair. -/
theorem pair2_apply (p : FVec Ideal S256x8 .f32) (x : FVec Ideal S256x768 .bf16) (acc : FVec Ideal S256x768 .f32)
    (u : Vec Ideal S1x2048x768 .bf16) (v : Vec Ideal S1x768x1024 .bf16) (u' : Vec Ideal S1x2048x768 .bf16)
    (v' : Vec Ideal S1x768x1024 .bf16) (r : Fin 256) (c : Fin 768) :
    k0_pay7 p x acc u v u' v' (ix2 r c)
      = acc (ix2 r c) + unit x u v r c * p (ix2 r 4) + unit x u' v' r c * p (ix2 r 5) := by
  pointwise [k0_pay7]
  rfl

/-- The fourth pair. -/
theorem pair3_apply (p : FVec Ideal S256x8 .f32) (x : FVec Ideal S256x768 .bf16) (acc : FVec Ideal S256x768 .f32)
    (u : Vec Ideal S1x2048x768 .bf16) (v : Vec Ideal S1x768x1024 .bf16) (u' : Vec Ideal S1x2048x768 .bf16)
    (v' : Vec Ideal S1x768x1024 .bf16) (r : Fin 256) (c : Fin 768) :
    k0_pay8 p x acc u v u' v' (ix2 r c)
      = acc (ix2 r c) + unit x u v r c * p (ix2 r 6) + unit x u' v' r c * p (ix2 r 7) := by
  pointwise [k0_pay8]
  rfl

/-- Expert `e`'s slice of the first layer's weights, read at an element. -/
theorem ld_first (x : Vec Ideal S8x2048x768 .bf16) (e : Nat) (he : e < 8)
    (inb : ∀ a, (![e, 0, 0] : Fin 3 → Nat) a + S1x2048x768.size a ≤ S8x2048x768.size a) (n : Fin 2048) (d : Fin 768) :
    View.ld x (Rect.unit (s := S8x2048x768) ![e, 0, 0] S1x2048x768.size inb) (ix3 0 n d) = x (ix3 ⟨e, he⟩ n d) := by
  pointwise []

/-- Expert `e`'s slice of the second layer's weights, read at an element. -/
theorem ld_second (x : Vec Ideal S8x768x1024 .bf16) (e : Nat) (he : e < 8)
    (inb : ∀ a, (![e, 0, 0] : Fin 3 → Nat) a + S1x768x1024.size a ≤ S8x768x1024.size a) (o : Fin 768) (k : Fin 1024) :
    View.ld x (Rect.unit (s := S8x768x1024) ![e, 0, 0] S1x768x1024.size inb) (ix3 0 o k) = x (ix3 ⟨e, he⟩ o k) := by
  pointwise []

/-- One expert's output over its two slices of the whole weights: the token block is narrowed first, which changes no
    extended real. -/
theorem unit_slice (x : Vec Ideal S256x768 .f32) (w1 : Vec Ideal S8x2048x768 .bf16) (w2 : Vec Ideal S8x768x1024 .bf16)
    (e : Nat) (he : e < 8)
    (i1 : ∀ a, (![e, 0, 0] : Fin 3 → Nat) a + S1x2048x768.size a ≤ S8x2048x768.size a)
    (i2 : ∀ a, (![e, 0, 0] : Fin 3 → Nat) a + S1x768x1024.size a ≤ S8x768x1024.size a) (r : Fin 256) (c : Fin 768) :
    unit (k0_pay3 (F := Ideal) x) (View.ld w1 (Rect.unit (s := S8x2048x768) ![e, 0, 0] S1x2048x768.size i1))
        (View.ld w2 (Rect.unit (s := S8x768x1024) ![e, 0, 0] S1x768x1024.size i2)) r c
      = expert (fun d => x (ix2 r d)) (fun n d => w1 (ix3 ⟨e, he⟩ n d)) (fun o k => w2 (ix3 ⟨e, he⟩ o k)) c := by
  have hx : (fun d : Fin 768 => k0_pay3 (F := Ideal) x (ix2 r d)) = fun d => x (ix2 r d) := funext fun d => by
    pointwise [k0_pay3, k0_pay1]
  unfold unit
  rw [hx]
  exact congrArg₂ (fun a b => expert (fun d => x (ix2 r d)) a b c)
    (funext fun n => funext fun d => ld_first w1 e he i1 n d) (funext fun o => funext fun k => ld_second w2 e he i2 o k)

/-- The sum starts from zero. -/
theorem start_apply (r : Fin 256) (c : Fin 768) : k0_pay4 (F := Ideal) (ix2 r c) = 0 := by
  pointwise [k0_pay4]

/-- THE BLOCK THE BODY STORES, at row `r` and channel `c`. -/
theorem out_apply (x : Vec Ideal S256x768 .f32) (rw_ : Vec Ideal S8x768 .f32) (w1 : Vec Ideal S8x2048x768 .bf16)
    (w2 : Vec Ideal S8x768x1024 .bf16) (r : Fin 256) (c : Fin 768) :
    out0_4 (F := Ideal) x rw_ w1 w2 (ix2 r c)
      = ∑ e : Fin 8, expert (fun d => x (ix2 r d)) (fun n d => w1 (ix3 e n d)) (fun o k => w2 (ix3 e o k)) c
          * chosen (softmax (score (fun d => x (ix2 r d)) fun e d => rw_ (ix2 e d))) e := by
  have hz : (![0, 0] : Fin 2 → Nat) = fun _ => 0 := funext fun a => by fin_cases a <;> rfl
  unfold out0_4 k0_pay10 k0_pay9
  rw [View.canon_unit_zero hz, View.ld_unit_zero hz, View.ld_unit_zero hz, pair3_apply, pair2_apply, pair1_apply,
    pair0_apply]
  rw [unit_slice x w1 w2 0 (by decide), unit_slice x w1 w2 1 (by decide), unit_slice x w1 w2 2 (by decide),
    unit_slice x w1 w2 3 (by decide), unit_slice x w1 w2 4 (by decide), unit_slice x w1 w2 5 (by decide),
    unit_slice x w1 w2 6 (by decide), unit_slice x w1 w2 7 (by decide), start_apply, zero_add]
  simp only [weight_apply]
  rw [Fin.sum_univ_eight]
  rfl

end Cert.KernelIdeal.Block
-- ==== Proof.KernelArray.lean ====
/-
  The kernel's result array after the run: every row and channel holds the sum over the eight experts.
-/
module

public import proofs.«01_k».proof.Proof.KernelBlock
public import Idealize.ShloMosaic.Lib.Pipeline.Value

@[expose] public section

set_option maxRecDepth 16384

noncomputable section

namespace Cert.KernelIdeal.Block

open Cert.KernelIdeal Cert.KernelIdeal.Gen Cert.Experts Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (ρ : Dev nD → PrngReg)

/-! ## The arguments, as functions of their coordinates -/

/-- Channel `d` of token `t`. -/
def token (c : Dev nD) (t : Fin 2048) (d : Fin 768) : EReal :=
  m ((c : Thread nD τ).loc main_arg0) (ix3 (0 : Fin 1) t d)

/-- The first layer's weights. -/
def first (c : Dev nD) (e : Fin 8) (n : Fin 2048) (d : Fin 768) : EReal :=
  m ((c : Thread nD τ).loc main_arg1) (ix3 e n d)

/-- The second layer's weights. -/
def second (c : Dev nD) (e : Fin 8) (o : Fin 768) (k : Fin 1024) : EReal :=
  m ((c : Thread nD τ).loc main_arg2) (ix3 e o k)

/-- The router's weights. -/
def router (c : Dev nD) (e : Fin 8) (d : Fin 768) : EReal :=
  m ((c : Thread nD τ).loc main_arg3) (ix2 e d)

/-- What the kernel computes at token `t` and channel `o`. -/
def mixed (c : Dev nD) (t : Fin 2048) (o : Fin 768) : EReal :=
  ∑ e : Fin 8, expert (token m c t) (first m c e) (second m c e) o * chosen (softmax (score (token m c t) (router m c))) e

/-- The same over the whole array. -/
def mixedArr (c : Dev nD) : Vec Ideal S2048x768 .f32 := fun i => mixed m c (i 0) (i 1)

/-! ## What the region finds -/

/-- The tokens, with the leading axis of one dropped. -/
theorem V_tokens (c : Dev nD) (t : Fin 2048) (d : Fin 768) :
    (V m c main_v0 : Vec Ideal S2048x768 .f32) (ix2 t d) = token m c t d := by
  have h : V m c main_v0
      = shapeCast S2048x768 (s := S1x2048x768) (m ((c : Thread nD τ).loc main_arg0)) shapeCasts_S1x2048x768_S2048x768 := by
    show StableHlo.after hostOps0 (fun b => m (c, b)) (Proc.devRef .tc main_v0) = _
    unfold hostOps0
    after_results
    rfl
  rw [h]
  pointwise []
  rfl

/-- The first layer's weights, narrowed: no extended real changes. -/
theorem V_first (c : Dev nD) : V m c main_v1 = m ((c : Thread nD τ).loc main_arg1) := by
  show StableHlo.after hostOps0 (fun b => m (c, b)) (Proc.devRef .tc main_v1) = _
  unfold hostOps0
  after_results
  rfl

/-- The second layer's weights, narrowed. -/
theorem V_second (c : Dev nD) : V m c main_v2 = m ((c : Thread nD τ).loc main_arg2) := by
  show StableHlo.after hostOps0 (fun b => m (c, b)) (Proc.devRef .tc main_v2) = _
  unfold hostOps0
  after_results
  rfl

/-! ## The blocks -/

/-- Block `t` of the tokens starts at row `256 t`; the result's blocks lie the same way. -/
theorem rows_at : ∀ t : Fin cfg0.N, (win0_0.index t 0 = t.val ∧ win0_0.index t 1 = 0)
    ∧ win0_4.index t 0 = t.val ∧ win0_4.index t 1 = 0 :=
  (by decide +kernel : ∀ t : Fin grid0.N, (win0_0.index t 0 = t.val ∧ win0_0.index t 1 = 0)
    ∧ win0_4.index t 0 = t.val ∧ win0_4.index t 1 = 0)

/-- The other windows stay at their arrays' one block. -/
theorem whole_at : ∀ t : Fin cfg0.N, (∀ a, win0_1.index t a = 0) ∧ (∀ a, win0_2.index t a = 0) ∧ ∀ a, win0_3.index t a = 0 :=
  (by decide +kernel : ∀ t : Fin grid0.N,
    (∀ a, win0_1.index t a = 0) ∧ (∀ a, win0_2.index t a = 0) ∧ ∀ a, win0_3.index t a = 0)

/-- Row `r` of point `t`'s token block is token `256 t + r`. -/
theorem tokens_blk (c : Dev nD) (t : Fin cfg0.N) (r : Fin 256) (d : Fin 768) (h : t.val * 256 + r.val < 2048) :
    (iblk m c 0 t : Vec Ideal S256x768 .f32) (ix2 r d) = token m c ⟨t.val * 256 + r.val, h⟩ d := by
  refine Eq.trans ?_ (V_tokens m c _ d)
  refine congrArg (V m c main_v0 : Vec Ideal S2048x768 .f32) (funext fun a => Fin.ext ?_)
  match a with
  | ⟨0, _⟩ =>
    show win0_0.index t 0 * 256 + 1 * r.val = t.val * 256 + r.val
    rw [(rows_at t).1.1, one_mul]
  | ⟨1, _⟩ =>
    show win0_0.index t 1 * 768 + 1 * d.val = d.val
    rw [(rows_at t).1.2]; omega

/-- The router's weights, whole at every point. -/
theorem router_blk (c : Dev nD) (t : Fin cfg0.N) (e : Fin 8) (d : Fin 768) :
    (iblk m c 1 t : Vec Ideal S8x768 .f32) (ix2 e d) = router m c e d := by
  refine Eq.trans ?_ (congrFun (V_main_arg3 m c) (ix2 e d))
  refine congrArg (V m c main_arg3 : Vec Ideal S8x768 .f32) (funext fun a => Fin.ext ?_)
  match a with
  | ⟨0, _⟩ =>
    show win0_1.index t 0 * 8 + 1 * e.val = e.val
    rw [(whole_at t).1]; omega
  | ⟨1, _⟩ =>
    show win0_1.index t 1 * 768 + 1 * d.val = d.val
    rw [(whole_at t).1]; omega

/-- The first layer's weights, whole at every point. -/
theorem first_blk (c : Dev nD) (t : Fin cfg0.N) (e : Fin 8) (n : Fin 2048) (d : Fin 768) :
    (iblk m c 2 t : Vec Ideal S8x2048x768 .bf16) (ix3 e n d) = first m c e n d := by
  refine Eq.trans ?_ (congrFun (V_first m c) (ix3 e n d))
  refine congrArg (V m c main_v1 : Vec Ideal S8x2048x768 .bf16) (funext fun a => Fin.ext ?_)
  match a with
  | ⟨0, _⟩ =>
    show win0_2.index t 0 * 8 + 1 * e.val = e.val
    rw [(whole_at t).2.1]; omega
  | ⟨1, _⟩ =>
    show win0_2.index t 1 * 2048 + 1 * n.val = n.val
    rw [(whole_at t).2.1]; omega
  | ⟨2, _⟩ =>
    show win0_2.index t 2 * 768 + 1 * d.val = d.val
    rw [(whole_at t).2.1]; omega

/-- The second layer's weights, whole at every point. -/
theorem second_blk (c : Dev nD) (t : Fin cfg0.N) (e : Fin 8) (o : Fin 768) (k : Fin 1024) :
    (iblk m c 3 t : Vec Ideal S8x768x1024 .bf16) (ix3 e o k) = second m c e o k := by
  refine Eq.trans ?_ (congrFun (V_second m c) (ix3 e o k))
  refine congrArg (V m c main_v2 : Vec Ideal S8x768x1024 .bf16) (funext fun a => Fin.ext ?_)
  match a with
  | ⟨0, _⟩ =>
    show win0_3.index t 0 * 8 + 1 * e.val = e.val
    rw [(whole_at t).2.2]; omega
  | ⟨1, _⟩ =>
    show win0_3.index t 1 * 768 + 1 * o.val = o.val
    rw [(whole_at t).2.2]; omega
  | ⟨2, _⟩ =>
    show win0_3.index t 2 * 1024 + 1 * k.val = k.val
    rw [(whole_at t).2.2]; omega

/-- The body's result over point `t`'s blocks, at row `r`: token `256 t + r`'s sum over the experts. -/
theorem out_blk (c : Dev nD) (t : Fin cfg0.N) (r : Fin 256) (o : Fin 768) (h : t.val * 256 + r.val < 2048) :
    out0_4 (F := Ideal) (iblk m c 0 t) (iblk m c 1 t) (iblk m c 2 t) (iblk m c 3 t) (ix2 r o)
      = mixed m c ⟨t.val * 256 + r.val, h⟩ o := by
  refine (out_apply _ _ _ _ r o).trans ?_
  simp only [tokens_blk m c t r _ h, router_blk, first_blk, second_blk]
  rfl

/-- What point `t` writes back is rows `256 t` to `256 t + 255` of the whole-array function. -/
theorem flushed_eq (c : Dev nD) (t : Fin cfg0.N) :
    (dats m 0 c).flushed 4 t = ((cfg0.win 4).blk t).view.read (Elt Ideal) (mixedArr m c) := by
  have ht : t.val < 8 := lt_of_lt_of_eq t.isLt N_0
  rw [Value.flushed4]
  funext j
  have hj0 : (j 0 : Nat) < 256 := (j 0).isLt
  have hj1 : (j 1 : Nat) < 768 := (j 1).isLt
  have hr : t.val * 256 + (j 0 : Nat) < 2048 := by omega
  refine Eq.trans (?_ : _ = out0_4 (F := Ideal) (iblk m c 0 t) (iblk m c 1 t) (iblk m c 2 t) (iblk m c 3 t)
    (ix2 (⟨(j 0 : Nat), hj0⟩ : Fin 256) (⟨(j 1 : Nat), hj1⟩ : Fin 768))) ((out_blk m c t _ _ hr).trans ?_)
  · refine congrArg (out0_4 (F := Ideal) (iblk m c 0 t) (iblk m c 1 t) (iblk m c 2 t) (iblk m c 3 t)) (funext fun a => Fin.ext ?_)
    match a with
    | ⟨0, _⟩ => rfl
    | ⟨1, _⟩ => rfl
  · refine congrArg₂ (mixed m c) (Fin.ext ?_) (Fin.ext ?_)
    · show t.val * 256 + (j 0 : Nat) = win0_4.index t 0 * 256 + 1 * (j 0 : Nat)
      rw [(rows_at t).2.1, one_mul]
    · show (j 1 : Nat) = win0_4.index t 1 * 768 + 1 * (j 1 : Nat)
      rw [(rows_at t).2.2]; omega

/-- No block of the result is cut short. -/
theorem uncut_at : ∀ t : Fin cfg0.N, win0_4.xsize (grid0.coords t) 0 = 256 ∧ win0_4.xsize (grid0.coords t) 1 = 768 :=
  (by decide +kernel : ∀ t : Fin grid0.N, win0_4.xsize (grid0.coords t) 0 = 256 ∧ win0_4.xsize (grid0.coords t) 1 = 768)

/-- An index of the result is in point `t`'s block when its row is one of the point's 256. -/
theorem mem_blk (t : Fin cfg0.N) (i : S2048x768.Idx) (h : t.val * 256 ≤ (i 0 : Nat) ∧ (i 0 : Nat) < t.val * 256 + 256) :
    i ∈ ((cfg0.win 4).blk t).view.set := by
  show i ∈ ((View.whole main_v3).slice (win0_4.rect t)).set
  rw [View.set_slice_whole, Rect.mem_set_unit]
  have h1 : (i 1 : Nat) < 768 := (i 1).isLt
  intro a
  match a with
  | ⟨0, _⟩ =>
    show win0_4.index t 0 * win0_4.size 0 ≤ (i 0 : Nat)
      ∧ (i 0 : Nat) < win0_4.index t 0 * win0_4.size 0 + win0_4.xsize (grid0.coords t) 0
    rw [(rows_at t).2.1, (uncut_at t).1]; exact h
  | ⟨1, _⟩ =>
    show win0_4.index t 1 * win0_4.size 1 ≤ (i 1 : Nat)
      ∧ (i 1 : Nat) < win0_4.index t 1 * win0_4.size 1 + win0_4.xsize (grid0.coords t) 1
    rw [(rows_at t).2.2, (uncut_at t).2]; omega

/-- The eight blocks cover the result. -/
theorem cover (i : S2048x768.Idx) : ∃ t : Fin cfg0.N, (cfg0.win 4).flush t = true ∧ i ∈ ((cfg0.win 4).blk t).view.set := by
  have h0 : (i 0 : Nat) < 2048 := (i 0).isLt
  have hN : cfg0.N = 8 := N_0
  refine ⟨⟨(i 0 : Nat) / 256, by omega⟩, flush0_4 _, mem_blk _ i ?_⟩
  dsimp only
  omega

/-- THE RESULT ARRAY after the run. -/
theorem final (c : Dev nD) : (dats m 0 c).arrAt 4 cfg0.N = mixedArr m c :=
  (dats m 0 c).arrAt_eq_of_cover 4 (mixedArr m c) (fun t _ => flushed_eq m c t) cover

/-- The kernel's run: the result is `mixedArr` and the arguments are kept. -/
theorem run : θ_run defs (onTc (τ := τ) (main (F := Ideal))) ⟨m, fun _ => 0, ρ⟩ fun r => ∀ c : Dev nD,
      r.2.mem ((c : Thread nD τ).loc main_v3) = mixedArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks (F := Ideal) m ρ)

end Cert.KernelIdeal.Block
-- ==== Proof.ReferenceTerm.lean ====
/-
  The reference's result as a chain of named steps over its four arguments, and that the run ends with it.
-/
module

public import proofs.«01_k».proof.Proof.Gen.ReferenceIdeal.Run
public import Idealize.ShloMosaic.PureOps.Ideal

@[expose] public section

set_option maxRecDepth 16384

noncomputable section

namespace Cert.ReferenceIdeal.Steps

open Cert.ReferenceIdeal Cert.ReferenceIdeal.Gen Idealize.ShloMosaic Idealize.ShloMosaic.TcCoe Idealize.SL.Sem

variable (h : FVec Ideal S1x2048x768 .f32) (w1 : FVec Ideal S8x2048x768 .f32) (w2 : FVec Ideal S8x768x1024 .f32)
  (rw_ : FVec Ideal S8x768 .f32)

/-- The tokens, the leading axis of one dropped. -/
def tokens : FVec Ideal S2048x768 .f32 := shapeCast S2048x768 h shapeCasts_S1x2048x768_S2048x768

/-- The router's scores. -/
def scores : FVec Ideal S2048x8 .f32 :=
  Host.dotGeneral dot_S2048x768_S768x8_S2048x8_1_0_0_1_n_n none (tokens h)
    (transpose S768x8 [1, 0] rw_ transposes_S8x768_S768x8_1_0)

/-- Each token's greatest score. -/
def peaks : FVec Ideal S2048 .f32 :=
  maximumf (broadcastInDim S2048 ![] bcast_S_S2048 (constant S_ .f32 0xFF800000#32))
    (Host.reduce FloatOps.maximumf (scores h rw_) (constant S_ .f32 0xFF800000#32) reducesTo_S2048x8_S2048_d1 h_S_)

/-- The exponentials of the shifted scores. -/
def exps : FVec Ideal S2048x8 .f32 :=
  Host.exp (subf (scores h rw_) (broadcastInDim S2048x8 ![0, 1] bcast_S2048x1_S2048x8_0_1
    (broadcastInDim S2048x1 ![0] bcast_S2048_S2048x1_0 (peaks h rw_))))

/-- The softmax. -/
def probs : FVec Ideal S2048x8 .f32 :=
  Host.divf (exps h rw_) (broadcastInDim S2048x8 ![0, 1] bcast_S2048x1_S2048x8_0_1
    (broadcastInDim S2048x1 ![0] bcast_S2048_S2048x1_0
      (Host.reduceAdd (exps h rw_) (constant S_ .f32 0x00000000#32) reducesTo_S2048x8_S2048_d1 h_S_)))

/-- Each token's two greatest weights and their experts. -/
def top : FVec Ideal S2048x2 .f32 × IVec S2048x2 32 :=
  Host.topK S2048x2 1 (FloatOps.cmpfTotal .gt) (probs h rw_) sliceFits_S2048x8_S2048x2

/-- The weights in one row, two for each token. -/
def weights : FVec Ideal S4096 .f32 := shapeCast S4096 (top h rw_).1 shapeCasts_S2048x2_S4096

/-- The experts in one row. -/
def choices : IVec S4096 32 := shapeCast S4096 (top h rw_).2 shapeCasts_S2048x2_S4096

/-- The token of each choice. -/
def owners : IVec S4096 32 :=
  shapeCast S4096 (broadcastInDim S2048x2 ![0] bcast_S2048_S2048x2_0 (iotaInDim S2048 32 0)) shapeCasts_S2048x2_S4096

/-- The number of each choice. -/
def numbers : IVec S4096 32 := iotaInDim S4096 32 0

/-- Indices below zero counted from the end of an axis of `n`. -/
def wrapped (n : BitVec 32) (v : IVec S4096 32) : IVec S4096 32 :=
  select (cmpi .slt v (broadcastInDim S4096 ![] bcast_S_S4096 (constantI S_ 32 0#32)))
    (addi v (broadcastInDim S4096 ![] bcast_S_S4096 (constantI S_ 32 n))) v

/-- A row as a column. -/
def col {α : Type} (v : S4096.Idx → α) : S4096x1.Idx → α := broadcastInDim S4096x1 ![0] bcast_S4096_S4096x1_0 v

/-- Two columns side by side. -/
def pairs (a b : IVec S4096 32) : IVec S4096x2 32 :=
  concatenate S4096x2 1 [⟨S4096x1, col a⟩, ⟨S4096x1, col b⟩] concatenates_S4096x1_S4096x1_S4096x2_d1

/-- Every token through every expert's first layer. -/
def allFirst : FVec Ideal S2048x8x2048 .f32 :=
  Host.dotGeneral dot_S2048x768_S8x2048x768_S2048x8x2048_1_2_0_01_n_n none (tokens h) w1

/-- The chosen experts' first layers. -/
def firstOut : FVec Ideal S4096x2048 .f32 :=
  Host.gather gather_S2048x8x2048_S4096x2_S4096x2048_1_01_n_n_01_1_112048 (allFirst h w1)
    (pairs (wrapped 2048#32 owners) (wrapped 8#32 (choices h rw_)))

/-- The gate half. -/
def gates : FVec Ideal S4096x1024 .f32 :=
  extractStridedSlice S4096x1024 ![0, 0] (firstOut h w1 rw_) slices_S4096x2048_S4096x1024_0_0

/-- The up half. -/
def ups : FVec Ideal S4096x1024 .f32 :=
  extractStridedSlice S4096x1024 ![0, 1024] (firstOut h w1 rw_) slices_S4096x2048_S4096x1024_0_1024

/-- Ones. -/
def ones : FVec Ideal S4096x1024 .f32 := broadcastInDim S4096x1024 ![] bcast_S_S4096x1024 (constant S_ .f32 0x3F800000#32)

/-- The hidden units: up times the gate's silu. -/
def hiddens : FVec Ideal S4096x1024 .f32 :=
  mulf (ups h w1 rw_) (mulf (gates h w1 rw_) (Host.divf ones (addf ones (Host.exp (Host.negf (gates h w1 rw_))))))

/-- Every choice's hidden units through every expert's second layer. -/
def allSecond : FVec Ideal S4096x8x768 .f32 :=
  Host.dotGeneral dot_S4096x1024_S8x768x1024_S4096x8x768_1_2_0_01_n_n none (hiddens h w1 rw_) w2

/-- The chosen experts' second layers. -/
def secondOut : FVec Ideal S4096x768 .f32 :=
  Host.gather gather_S4096x8x768_S4096x2_S4096x768_1_01_n_n_01_1_11768 (allSecond h w1 w2 rw_)
    (pairs (wrapped 4096#32 numbers) (wrapped 8#32 (choices h rw_)))

/-- The weighted outputs. -/
def updates : FVec Ideal S4096x768 .f32 :=
  mulf (secondOut h w1 w2 rw_) (broadcastInDim S4096x768 ![0, 1] bcast_S4096x1_S4096x768_0_1 (col (weights h rw_)))

/-- The result: each weighted output added to its token's row. -/
def result : FVec Ideal S2048x768 .f32 :=
  Host.scatterAdd scatter_S2048x768_S4096x1_S4096x768_1_0_0_1
    (broadcastInDim S2048x768 ![] bcast_S_S2048x768 (constant S_ .f32 0x00000000#32))
    (col (wrapped 2048#32 owners)) (updates h w1 w2 rw_)

variable (m : (ℓ : Loc nD τ sig) → Buf (Elt Ideal) ℓ)

/-- THE RUN'S RESULT is the last step, of the launched arguments. -/
theorem res_eq (c : Dev nD) : Value.res_main_v64 (F := Ideal) m c
    = result (m ((c : Thread nD τ).loc main_arg0)) (m ((c : Thread nD τ).loc main_arg1))
        (m ((c : Thread nD τ).loc main_arg2)) (m ((c : Thread nD τ).loc main_arg3)) := by
  unfold Value.res_main_v64
  rfl

end Cert.ReferenceIdeal.Steps
-- ==== Proof.ReferenceChoice.lean ====
/-
  The reference's router read element by element: its softmax, its two choices for each token, and those choices laid
  out in one row, two for each token.
-/
module

public import proofs.«01_k».proof.Proof.Mixture
public import proofs.«01_k».proof.Proof.ReferenceTerm
public import Idealize.ShloMosaic.Lib.Pointwise
public import Idealize.ShloMosaic.Lib.Routing.OpsPair
public import Idealize.ShloMosaic.Lib.Routing.Ops
public import Idealize.ShloMosaic.PureOps.Ideal.Laws

@[expose] public section

set_option maxRecDepth 16384

noncomputable section

namespace Cert.ReferenceIdeal.Steps

open Cert.ReferenceIdeal Cert.ReferenceIdeal.Gen Cert.Experts Idealize.ShloMosaic Idealize.ShloMosaic.TcCoe
open Idealize.ShloMosaic.Pointwise

variable (h : FVec Ideal S1x2048x768 .f32) (w1 : FVec Ideal S8x2048x768 .f32) (w2 : FVec Ideal S8x768x1024 .f32)
  (rw_ : FVec Ideal S8x768 .f32)

/-- Token `t`. -/
def tok (t : Fin 2048) (d : Fin 768) : EReal := h (ix3 (0 : Fin 1) t d)

/-- Token `t`'s softmax over the experts. -/
def prob (t : Fin 2048) : Fin 8 → EReal := softmax (score (tok h t) fun e d => rw_ (ix2 e d))

/-- The expert in place `s` of token `t`'s two. -/
def pick (t : Fin 2048) (s : Fin 2) : Fin 8 := sortedFrom (greater (prob h rw_ t)) ⟨s.val, by omega⟩

/-- The row position of token `t`'s choice `s`. -/
def at_ (t : Fin 2048) (s : Fin 2) : Fin 4096 := ⟨t.val * 2 + s.val, by omega⟩

/-- The softmax, element by element. -/
theorem probs_apply (t : Fin 2048) (e : Fin 8) : probs h rw_ (ix2 t e) = prob h rw_ t e := by
  pointwise [probs, exps, peaks, scores, tokens]
  have hf : Ideal.ofBits FTy.f32 4286578688#32 = ⊥ := by simp [Ideal.ofBits, Ideal.ieee]
  rw [hf]
  simp only [bot_sup_eq, max_bot_left]
  rfl

/-- The comparison the two choices are sorted by is "greater first". -/
theorem compare_eq (a b : EReal) :
    ((FloatOps.cmpfTotal (F := Ideal) (φ := .f32) .gt a b) == 1#1) = decide (b < a) := by
  rw [Ideal.cmpfTotal_def]
  show (BitVec.ofBool (decide (b < a)) == 1#1) = decide (b < a)
  cases decide (b < a) <;> rfl

/-- Where the sort of token `t`'s row reads its element in place `s`. -/
theorem place (t : Fin 2048) (s : Fin 2) :
    sortedFrom (fun k k' : Fin 8 => (FloatOps.cmpfTotal (F := Ideal) (φ := .f32) .gt
        (probs h rw_ (ix2 t k)) (probs h rw_ (ix2 t k'))) == 1#1) ⟨s.val, by omega⟩ = pick h rw_ t s := by
  unfold pick
  refine congrArg (fun r => sortedFrom r (⟨s.val, by omega⟩ : Fin 8)) (funext fun k => funext fun k' => ?_)
  rw [compare_eq, probs_apply, probs_apply]
  rfl

/-- The index `(t, k)`, as "row `t`'s index with `k` in its second place". -/
theorem along_row (t : Fin 2048) (j k : Fin 8) :
    Shape.Idx.along (s := S2048x8) (ix2 t j) (1 : Fin 2) k = ix2 t k := by
  funext a
  match a with
  | ⟨0, _⟩ => rfl
  | ⟨1, _⟩ => rfl

/-- The slice of the sorted rows keeps their first two places. -/
theorem keep_two {α : Type} (x : S2048x8.Idx → α) (t : Fin 2048) (s : Fin 2) :
    extractStridedSlice S2048x2 (fun _ => 0) x sliceFits_S2048x8_S2048x2 (ix2 t s) = x (ix2 t (⟨s.val, by omega⟩ : Fin 8)) := by
  unfold extractStridedSlice
  refine congrArg x (funext fun a => Fin.ext ?_)
  match a with
  | ⟨0, _⟩ => exact Nat.zero_add _
  | ⟨1, _⟩ => exact Nat.zero_add _

/-- A sort of rows with a second array carried along, read at row `t` and place `j`: both arrays at one position. -/
theorem sorted_row {β : Type} (cmp : Ideal .f32 × β → Ideal .f32 × β → BitVec 1) (x : FVec Ideal S2048x8 .f32)
    (y : S2048x8.Idx → β) (t : Fin 2048) (j i : Fin 8)
    (hi : sortedFrom (fun k k' : Fin 8 => cmp (x (ix2 t k), y (ix2 t k)) (x (ix2 t k'), y (ix2 t k')) == 1#1) j = i) :
    (Host.sort2 S2048x8 1 cmp x y).1 (ix2 t j) = x (ix2 t i) ∧ (Host.sort2 S2048x8 1 cmp x y).2 (ix2 t j) = y (ix2 t i) := by
  have e : (fun k : Fin 8 => Shape.Idx.along (s := S2048x8) (ix2 t j) (1 : Fin 2) k) = fun k => ix2 t k :=
    funext (along_row t j)
  subst hi
  unfold Host.sort2
  rw [dif_pos (show 1 < S2048x8.rank by decide)]
  exact ⟨congrArg (fun φ : Fin 8 → S2048x8.Idx =>
      x (φ (sortedFrom (fun k k' : Fin 8 => cmp (x (φ k), y (φ k)) (x (φ k'), y (φ k')) == 1#1) j))) e,
    congrArg (fun φ : Fin 8 → S2048x8.Idx =>
      y (φ (sortedFrom (fun k k' : Fin 8 => cmp (x (φ k), y (φ k)) (x (φ k'), y (φ k')) == 1#1) j))) e⟩

/-- Token `t`'s choice `s`: the expert. -/
theorem top_index (t : Fin 2048) (s : Fin 2) : (top h rw_).2 (ix2 t s) = BitVec.ofNat 32 (pick h rw_ t s).val := by
  unfold top Host.topK
  dsimp only
  refine (keep_two _ t s).trans ?_
  refine (sorted_row (fun l r => FloatOps.cmpfTotal (F := Ideal) (φ := .f32) .gt l.1 r.1) (probs h rw_) _ t
    (⟨s.val, by omega⟩ : Fin 8) (pick h rw_ t s) (place h rw_ t s)).2.trans ?_
  pointwise []

/-- Token `t`'s choice `s`: its weight. -/
theorem top_value (t : Fin 2048) (s : Fin 2) : (top h rw_).1 (ix2 t s) = prob h rw_ t (pick h rw_ t s) := by
  unfold top Host.topK
  dsimp only
  refine (keep_two _ t s).trans ?_
  exact (sorted_row (fun l r => FloatOps.cmpfTotal (F := Ideal) (φ := .f32) .gt l.1 r.1) (probs h rw_) _ t
    (⟨s.val, by omega⟩ : Fin 8) (pick h rw_ t s) (place h rw_ t s)).1.trans (probs_apply h rw_ t _)

/-- A choice's owner is its token. -/
theorem owners_apply (t : Fin 2048) (s : Fin 2) : owners (ix1 (at_ t s)) = BitVec.ofNat 32 t.val := by
  unfold owners
  refine (Routing.cast21 _ shapeCasts_S2048x2_S4096 t s (at_ t s) rfl).trans ?_
  pointwise []

/-- A choice's expert. -/
theorem choices_apply (t : Fin 2048) (s : Fin 2) :
    choices h rw_ (ix1 (at_ t s)) = BitVec.ofNat 32 (pick h rw_ t s).val :=
  (Routing.cast21 _ shapeCasts_S2048x2_S4096 t s (at_ t s) rfl).trans (top_index h rw_ t s)

/-- A choice's weight. -/
theorem weights_apply (t : Fin 2048) (s : Fin 2) :
    weights h rw_ (ix1 (at_ t s)) = prob h rw_ t (pick h rw_ t s) :=
  (Routing.cast21 _ shapeCasts_S2048x2_S4096 t s (at_ t s) rfl).trans (top_value h rw_ t s)

/-- A word below half the range is not wrapped. -/
theorem wrapped_apply (n : BitVec 32) (v : IVec S4096 32) (q : Fin 4096) (k : Nat) (hk : k < 2 ^ 31)
    (hv : v (ix1 q) = BitVec.ofNat 32 k) : wrapped n v (ix1 q) = BitVec.ofNat 32 k := by
  refine Eq.trans ?_ hv
  pointwise [wrapped]
  refine Routing.wrap_of_lt _ _ ?_
  rw [hv, BitVec.toNat_ofNat]
  omega

/-- A column reads its row. -/
theorem col_apply {α : Type} (v : S4096.Idx → α) (q : Fin 4096) : col v (ix2 q (0 : Fin 1)) = v (ix1 q) := by
  pointwise [col]

/-- The first of two columns side by side. -/
theorem pairs_first (a b : IVec S4096 32) (q : Fin 4096) : pairs a b (ix2 q (0 : Fin 2)) = a (ix1 q) := by
  pointwise [pairs, col]

/-- The second. -/
theorem pairs_second (a b : IVec S4096 32) (q : Fin 4096) : pairs a b (ix2 q (1 : Fin 2)) = b (ix1 q) := by
  pointwise [pairs, col]

/-- A choice's number is its position. -/
theorem numbers_apply (q : Fin 4096) : numbers (ix1 q) = BitVec.ofNat 32 q.val := by
  pointwise [numbers]

end Cert.ReferenceIdeal.Steps
-- ==== Proof.ReferenceValue.lean ====
/-
  The reference's result, read at a token and a channel: the two chosen experts' outputs weighted by the softmax.
-/
module

public import proofs.«01_k».proof.Proof.ReferenceChoice

@[expose] public section

set_option maxRecDepth 16384

noncomputable section

namespace Cert.ReferenceIdeal.Steps

open Cert.ReferenceIdeal Cert.ReferenceIdeal.Gen Cert.Experts Idealize.ShloMosaic Idealize.ShloMosaic.TcCoe
open Idealize.ShloMosaic.Pointwise

variable (h : FVec Ideal S1x2048x768 .f32) (w1 : FVec Ideal S8x2048x768 .f32) (w2 : FVec Ideal S8x768x1024 .f32)
  (rw_ : FVec Ideal S8x768 .f32)

/-- A position word read as a signed number, kept within its axis. -/
theorem clamp_word (k n : Nat) (hk : k < n) (hn : n ≤ 2 ^ 31) :
    min (BitVec.ofNat 32 k).toInt.toNat (n - 1) = k := by
  rw [StableHlo.Predicate.toInt_ofNat_small _ (by omega)]
  omega

/-- The first gather reads, at choice `q`, row `n` of the table at the choice's token and expert. -/
theorem gather_first (x : FVec Ideal S2048x8x2048 .f32) (idx : IVec S4096x2 32) (q : Fin 4096) (n : Fin 2048)
    (a : Fin 2048) (e : Fin 8) (ha : idx (ix2 q (0 : Fin 2)) = BitVec.ofNat 32 a.val)
    (he : idx (ix2 q (1 : Fin 2)) = BitVec.ofNat 32 e.val) :
    Host.gather gather_S2048x8x2048_S4096x2_S4096x2048_1_01_n_n_01_1_112048 x idx (ix2 q n) = x (ix3 a e n) := by
  have i0 : ∀ hc, gather_S2048x8x2048_S4096x2_S4096x2048_1_01_n_n_01_1_112048.siIdx (ix2 q n) ⟨0, hc⟩ = ix2 q (0 : Fin 2) :=
    fun hc => funext fun b => by match b with | ⟨0, _⟩ => rfl | ⟨1, _⟩ => rfl
  have i1 : ∀ hc, gather_S2048x8x2048_S4096x2_S4096x2048_1_01_n_n_01_1_112048.siIdx (ix2 q n) ⟨1, hc⟩ = ix2 q (1 : Fin 2) :=
    fun hc => funext fun b => by match b with | ⟨0, _⟩ => rfl | ⟨1, _⟩ => rfl
  unfold Host.gather
  refine congrArg x (funext fun b => Fin.ext ?_)
  match b with
  | ⟨0, _⟩ =>
    exact (congrArg (fun w : BitVec 32 => min w.toInt.toNat (2048 - 1)) ((congrArg idx (i0 (by decide))).trans ha)).trans
      (clamp_word a.val 2048 a.isLt (by decide))
  | ⟨1, _⟩ =>
    exact (congrArg (fun w : BitVec 32 => min w.toInt.toNat (8 - 1)) ((congrArg idx (i1 (by decide))).trans he)).trans
      (clamp_word e.val 8 e.isLt (by decide))
  | ⟨2, _⟩ =>
    show 0 + 0 + n.val = n.val
    omega

/-- The second gather, likewise, over the table of choices. -/
theorem gather_second (x : FVec Ideal S4096x8x768 .f32) (idx : IVec S4096x2 32) (q : Fin 4096) (o : Fin 768)
    (a : Fin 4096) (e : Fin 8) (ha : idx (ix2 q (0 : Fin 2)) = BitVec.ofNat 32 a.val)
    (he : idx (ix2 q (1 : Fin 2)) = BitVec.ofNat 32 e.val) :
    Host.gather gather_S4096x8x768_S4096x2_S4096x768_1_01_n_n_01_1_11768 x idx (ix2 q o) = x (ix3 a e o) := by
  have i0 : ∀ hc, gather_S4096x8x768_S4096x2_S4096x768_1_01_n_n_01_1_11768.siIdx (ix2 q o) ⟨0, hc⟩ = ix2 q (0 : Fin 2) :=
    fun hc => funext fun b => by match b with | ⟨0, _⟩ => rfl | ⟨1, _⟩ => rfl
  have i1 : ∀ hc, gather_S4096x8x768_S4096x2_S4096x768_1_01_n_n_01_1_11768.siIdx (ix2 q o) ⟨1, hc⟩ = ix2 q (1 : Fin 2) :=
    fun hc => funext fun b => by match b with | ⟨0, _⟩ => rfl | ⟨1, _⟩ => rfl
  unfold Host.gather
  refine congrArg x (funext fun b => Fin.ext ?_)
  match b with
  | ⟨0, _⟩ =>
    exact (congrArg (fun w : BitVec 32 => min w.toInt.toNat (4096 - 1)) ((congrArg idx (i0 (by decide))).trans ha)).trans
      (clamp_word a.val 4096 a.isLt (by decide))
  | ⟨1, _⟩ =>
    exact (congrArg (fun w : BitVec 32 => min w.toInt.toNat (8 - 1)) ((congrArg idx (i1 (by decide))).trans he)).trans
      (clamp_word e.val 8 e.isLt (by decide))
  | ⟨2, _⟩ =>
    show 0 + 0 + o.val = o.val
    omega

/-- The chosen expert's first layer at the choice's token. -/
theorem firstOut_apply (t : Fin 2048) (s : Fin 2) (n : Fin 2048) :
    firstOut h w1 rw_ (ix2 (at_ t s) n) = proj (tok h t) (fun n d => w1 (ix3 (pick h rw_ t s) n d)) n := by
  unfold firstOut
  refine (gather_first _ _ _ n t (pick h rw_ t s)
    ((pairs_first _ _ _).trans (wrapped_apply _ _ _ _ (by omega) (owners_apply t s)))
    ((pairs_second _ _ _).trans (wrapped_apply _ _ _ _ (by omega) (choices_apply h rw_ t s)))).trans ?_
  pointwise [allFirst, tokens]
  rfl

/-- The hidden units of the choice. -/
theorem hiddens_apply (t : Fin 2048) (s : Fin 2) (k : Fin 1024) :
    hiddens h w1 rw_ (ix2 (at_ t s) k) = hiddenUnit (tok h t) (fun n d => w1 (ix3 (pick h rw_ t s) n d)) k := by
  have hg : gates h w1 rw_ (ix2 (at_ t s) k)
      = proj (tok h t) (fun n d => w1 (ix3 (pick h rw_ t s) n d)) (gateRow k) := by
    refine Eq.trans ?_ (firstOut_apply h w1 rw_ t s (gateRow k))
    pointwise [gates]
    rfl
  have hu : ups h w1 rw_ (ix2 (at_ t s) k)
      = proj (tok h t) (fun n d => w1 (ix3 (pick h rw_ t s) n d)) (upRow k) := by
    refine Eq.trans ?_ (firstOut_apply h w1 rw_ t s (upRow k))
    pointwise [ups]
    rfl
  unfold hiddenUnit
  rw [← mul_sigmoid, ← hg, ← hu]
  pointwise [hiddens, ones]

/-- The chosen expert's second layer at the choice. -/
theorem secondOut_apply (t : Fin 2048) (s : Fin 2) (o : Fin 768) :
    secondOut h w1 w2 rw_ (ix2 (at_ t s) o)
      = expert (tok h t) (fun n d => w1 (ix3 (pick h rw_ t s) n d)) (fun o k => w2 (ix3 (pick h rw_ t s) o k)) o := by
  unfold secondOut
  refine (gather_second _ _ _ o (at_ t s) (pick h rw_ t s)
    ((pairs_first _ _ _).trans (wrapped_apply _ _ _ _ (by omega) (numbers_apply (at_ t s))))
    ((pairs_second _ _ _).trans (wrapped_apply _ _ _ _ (by omega) (choices_apply h rw_ t s)))).trans ?_
  unfold expert
  simp only [← hiddens_apply]
  pointwise [allSecond]

/-- The weighted output of the choice. -/
theorem updates_apply (t : Fin 2048) (s : Fin 2) (o : Fin 768) :
    updates h w1 w2 rw_ (ix2 (at_ t s) o)
      = expert (tok h t) (fun n d => w1 (ix3 (pick h rw_ t s) n d)) (fun o k => w2 (ix3 (pick h rw_ t s) o k)) o
        * prob h rw_ t (pick h rw_ t s) := by
  rw [← secondOut_apply, ← weights_apply]
  pointwise [updates, col]

/-- Update `(q, o')` lands at `(t, o)` when the channels agree and the choice is one of token `t`'s. -/
theorem lands (q : Fin 4096) (o' : Fin 768) (t : Fin 2048) (o : Fin 768) (idx : IVec S4096x1 32) (a : Nat)
    (ha : a < 2 ^ 31) (hi : idx (ix2 q (0 : Fin 1)) = BitVec.ofNat 32 a) :
    scatter_S2048x768_S4096x1_S4096x768_1_0_0_1.resultIdx? (ix2 q o') idx = some (ix2 t o) ↔ a = t.val ∧ o' = o := by
  have i0 : ∀ hc, scatter_S2048x768_S4096x1_S4096x768_1_0_0_1.siIdx (ix2 q o') ⟨0, hc⟩ = ix2 q (0 : Fin 1) :=
    fun hc => funext fun b => by match b with | ⟨0, _⟩ => rfl | ⟨1, _⟩ => rfl
  refine (Routing.resultIdx?_ix2 _ _ idx t o).trans ?_
  have h0 : scatter_S2048x768_S4096x1_S4096x768_1_0_0_1.start (ix2 q o') idx 0 = a := by
    exact (congrArg BitVec.toInt ((congrArg idx (i0 (by decide))).trans hi)).trans
      (StableHlo.Predicate.toInt_ofNat_small _ (by omega))
  have h1 : scatter_S2048x768_S4096x1_S4096x768_1_0_0_1.start (ix2 q o') idx 1 = 0 := rfl
  have k0 : scatter_S2048x768_S4096x1_S4096x768_1_0_0_1.window (ix2 q o') 0 = 0 := rfl
  have k1 : scatter_S2048x768_S4096x1_S4096x768_1_0_0_1.window (ix2 q o') 1 = o'.val := rfl
  rw [h0, h1, k0, k1, Fin.ext_iff]
  omega

/-- Every update is some token's choice at some channel. -/
theorem split_update (u : S4096x768.Idx) : ∃ (t : Fin 2048) (s : Fin 2) (o : Fin 768), u = ix2 (at_ t s) o := by
  have h0 : (u 0 : Nat) < 4096 := (u 0).isLt
  refine ⟨⟨(u 0 : Nat) / 2, by omega⟩, ⟨(u 0 : Nat) % 2, by omega⟩, u 1, funext fun a => ?_⟩
  match a with
  | ⟨0, _⟩ =>
    refine Fin.ext ?_
    show (u 0 : Nat) = (u 0 : Nat) / 2 * 2 + (u 0 : Nat) % 2
    omega
  | ⟨1, _⟩ => rfl

/-- Equal updates have equal tokens and channels. -/
theorem same_update {t t' : Fin 2048} {s s' : Fin 2} {o o' : Fin 768}
    (e : (ix2 (at_ t' s') o' : S4096x768.Idx) = ix2 (at_ t s) o) : t'.val = t.val ∧ o' = o := by
  have e0 := congrArg (fun i : S4096x768.Idx => (i 0 : Nat)) e
  change t'.val * 2 + s'.val = t.val * 2 + s.val at e0
  exact ⟨by omega, congrArg (fun i : S4096x768.Idx => i 1) e⟩

/-- THE RESULT at token `t` and channel `o`. -/
theorem result_apply (t : Fin 2048) (o : Fin 768) :
    result h w1 w2 rw_ (ix2 t o)
      = layer (tok h t) (fun e d => rw_ (ix2 e d)) (fun e n d => w1 (ix3 e n d)) (fun e o k => w2 (ix3 e o k)) o := by
  have hidx : ∀ (t' : Fin 2048) (s : Fin 2),
      col (wrapped 2048#32 owners) (ix2 (at_ t' s) (0 : Fin 1)) = BitVec.ofNat 32 t'.val := fun t' s =>
    (col_apply _ _).trans (wrapped_apply _ _ _ _ (by omega) (owners_apply t' s))
  have hset : (Finset.univ.filter fun u => scatter_S2048x768_S4096x1_S4096x768_1_0_0_1.resultIdx? u
      (col (wrapped 2048#32 owners)) = some (ix2 t o)) = {ix2 (at_ t 0) o, ix2 (at_ t 1) o} := by
    ext u
    obtain ⟨t', s, o', rfl⟩ := split_update u
    rw [Finset.mem_filter, lands _ o' t o _ t'.val (by omega) (hidx t' s), Finset.mem_insert, Finset.mem_singleton]
    constructor
    · rintro ⟨-, ht, rfl⟩
      obtain rfl := Fin.ext ht
      match s with
      | ⟨0, _⟩ => exact .inl rfl
      | ⟨1, _⟩ => exact .inr rfl
    · rintro (e | e)
      · exact ⟨Finset.mem_univ _, (same_update e).1, (same_update e).2⟩
      · exact ⟨Finset.mem_univ _, (same_update e).1, (same_update e).2⟩
  have hne : (ix2 (at_ t 0) o : S4096x768.Idx) ≠ ix2 (at_ t 1) o := fun e => by
    have := congrArg (fun i : S4096x768.Idx => (i 0 : Nat)) e
    change t.val * 2 + 0 = t.val * 2 + 1 at this
    omega
  have hz : (broadcastInDim S2048x768 ![] bcast_S_S2048x768 (constant (F := Ideal) S_ .f32 0x00000000#32)) (ix2 t o) = 0 := by
    pointwise []
  unfold result
  refine (congrFun (Ideal.hostScatterAdd_def (φ := .f32) _ .single _ _ _) (ix2 t o)).trans ?_
  unfold Ideal.hostScatterAdd
  rw [hset, Finset.sum_pair hne, hz, zero_add, updates_apply, updates_apply]
  rfl

end Cert.ReferenceIdeal.Steps
-- ==== Proof.Finite.lean ====
/-
  What the precondition says: every token channel and every router weight is a real number.
-/
module

public import proofs.«01_k».proof.Pre_finite_router
public import Idealize.ShloMosaic.PureOps.Ideal.Laws
public import Idealize.ShloMosaic.Lib.ReduceAll
public import Idealize.ShloMosaic.Lib.Affine

@[expose] public section

noncomputable section

namespace Cert.Finite

open Idealize.ShloMosaic Cert.Pre_finite_router

/-- The shape relations of the precondition's operations. -/
theorem facts : Pre_finite_router.Facts where
  bcast_S_S1x2048x768 := by decide
  reducesTo_S1x2048x768_S_d0_1_2 := by decide
  h_S_ := by decide
  bcast_S_S8x768 := by decide
  reducesTo_S8x768_S_d0_1 := by decide

/-- A number whose absolute value is below the top is real. -/
theorem real_of_abs (x : EReal) (hx : max x (-x) < ⊤) : ∃ a : ℝ, x = a := by
  induction x using EReal.rec with
  | bot => exact absurd hx (by simp)
  | top => exact absurd hx (by simp)
  | coe a => exact ⟨a, rfl⟩

/-- The comparison the precondition makes of one element says that the element is real. -/
theorem real_of_word (x : Ideal .f32)
    (hx : FloatOps.cmpf .olt (FloatOps.hostAbsf x) (FloatOps.ofBits (F := Ideal) .f32 0x7F800000#32) = 1#1) :
    ∃ a : ℝ, x = a := by
  have ht : (FloatOps.ofBits (F := Ideal) .f32 0x7F800000#32 : Ideal .f32) = ⊤ := by
    show Ideal.ofBits .f32 0x7F800000#32 = ⊤
    simp [Ideal.ofBits, Ideal.ieee]
  rw [ht] at hx
  refine real_of_abs x ?_
  have h : BitVec.ofBool (decide (max x (-x) < ⊤)) = 1#1 := hx
  cases e : decide (max x (-x) < (⊤ : EReal))
  · rw [e] at h; exact absurd h (by decide)
  · exact of_decide_eq_true e

/-- THE PRECONDITION: the tokens and the router's weights are real. -/
theorem real_of_pre [Pre_finite_router.Facts] (a0 : FVec Ideal S1x2048x768 .f32) (a1 : FVec Ideal S8x2048x768 .f32)
    (a2 : FVec Ideal S8x768x1024 .f32) (a3 : FVec Ideal S8x768 .f32)
    (h : Pre_finite_router.fn (F := Ideal) a0 a1 a2 a3 = fun _ => 1#1) :
    (∀ i, ∃ r : ℝ, a0 i = r) ∧ ∀ i, ∃ r : ℝ, a3 i = r := by
  have single : Subsingleton S_.Idx := ⟨fun a b => funext fun k => k.elim0⟩
  have e := congrFun h (fun k => k.elim0)
  unfold Pre_finite_router.fn at e
  obtain ⟨e0, e3⟩ := IntOp.andi_eq_one.1 e
  exact ⟨fun i => real_of_word _ (Host.reduce_andi_all _ _ _ _ _ e0 i),
    fun i => real_of_word _ (Host.reduce_andi_all _ _ _ _ _ e3 i)⟩

end Cert.Finite
-- ==== Proof.lean ====
/-
  The certificate: the kernel's and the reference's runs end, keep their arguments and leave every counter at zero; the
  ideal kernel is the kernel; and over the extended reals, where the tokens and the router's weights are real, the kernel
  and the reference end with the same result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelArray
public import proofs.«01_k».proof.Proof.ReferenceValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run keeps its arguments and leaves every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0 :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- One token and channel: where the scores are real, the sum over all experts under the kernel's weights is the two best
    experts' weighted outputs. -/
theorem same_layer (x : Fin 768 → EReal) (router : Fin 8 → Fin 768 → EReal) (w1 : Fin 8 → Fin 2048 → Fin 768 → EReal)
    (w2 : Fin 8 → Fin 768 → Fin 1024 → EReal) (o : Fin 768) (hx : ∀ d, ∃ a : ℝ, x d = a)
    (hr : ∀ e d, ∃ a : ℝ, router e d = a) :
    (∑ e, Experts.expert x (w1 e) (w2 e) o * Experts.chosen (Experts.softmax (Experts.score x router)) e)
      = Experts.layer x router w1 w2 o := by
  have hp := Experts.softmax_gt _ (Experts.score_finite x router hx hr)
  have ht := Experts.topTwo_sorted (Experts.softmax (Experts.score x router))
  simp only [Experts.chosen_eq _ hp _ _ ht]
  exact Experts.sum_two _ _ _ _ ht.ne

/-- The two results are equal, element by element. -/
theorem same_result (m : (ℓ : Loc Cert.KernelIdeal.nD Cert.KernelIdeal.τ Cert.KernelIdeal.sig) → Buf (Elt Ideal) ℓ)
    (c : Dev Cert.KernelIdeal.nD)
    (h0 : ∀ t d, ∃ a : ℝ, Cert.KernelIdeal.Block.token m c t d = a)
    (h3 : ∀ e d, ∃ a : ℝ, Cert.KernelIdeal.Block.router m c e d = a) :
    Cert.ReferenceIdeal.Steps.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Block.mixedArr m c := by
  funext i
  obtain ⟨t, o, rfl⟩ : ∃ (t : Fin 2048) (o : Fin 768), i = Idealize.ShloMosaic.ValueIdx.ix2 t o :=
    ⟨i 0, i 1, funext fun a => by match a with | ⟨0, _⟩ => rfl | ⟨1, _⟩ => rfl⟩
  refine (Cert.ReferenceIdeal.Steps.result_apply _ _ _ _ t o).trans ?_
  exact (same_layer (Cert.KernelIdeal.Block.token m c t) (Cert.KernelIdeal.Block.router m c)
    (Cert.KernelIdeal.Block.first m c) (Cert.KernelIdeal.Block.second m c) o (h0 t) h3).symm

/-- THE CERTIFICATE. -/
theorem claim : Cert.Claim := by
  refine ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    trivial, fun m ρ m' ρ' hpre hargs => ⟨Cert.KernelIdeal.Block.mixedArr m, Cert.KernelIdeal.Block.run m ρ,
      (θ_run Cert.ReferenceIdeal.defs _ _).mono (fun r h c => ⟨(h c).1.trans ?_, (h c).2⟩)
        (Cert.ReferenceIdeal.Value.run (F := Ideal) m' ρ')⟩⟩
  obtain ⟨h0, h3⟩ := @Cert.Finite.real_of_pre Cert.Finite.facts _ _ _ _ (hpre c)
  obtain ⟨e0, e1, e2, e3⟩ := hargs c
  refine (Cert.ReferenceIdeal.Steps.res_eq m' c).trans ?_
  rw [e0, e1, e2, e3]
  exact same_result m c (fun t d => h0 _) (fun e d => h3 _)

end Cert.Proof

end
